-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v16) = v2 c
          ∧ r.2.mem ((c.tc : Thread Cert.ReferenceIdeal.nD Cert.ReferenceIdeal.τ).loc Cert.ReferenceIdeal.main_v21) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x1024 : Shape := ⟨3, ![4, 8192, 1024]⟩
abbrev S64x1024 : Shape := ⟨2, ![64, 1024]⟩
abbrev S1024x1 : Shape := ⟨2, ![1024, 1]⟩
abbrev S1 : Shape := ⟨1, ![1]⟩
abbrev S1024x2 : Shape := ⟨2, ![1024, 2]⟩
abbrev S_ : Shape := ⟨0, ![]⟩
abbrev S2 : Shape := ⟨1, ![2]⟩
abbrev S1x2 : Shape := ⟨2, ![1, 2]⟩
abbrev S4x8256x1024 : Shape := ⟨3, ![4, 8256, 1024]⟩
abbrev S4x8192x2 : Shape := ⟨3, ![4, 8192, 2]⟩
abbrev S1x64x1024 : Shape := ⟨3, ![1, 64, 1024]⟩
abbrev S1x64x2 : Shape := ⟨3, ![1, 64, 2]⟩
abbrev S64x2 : Shape := ⟨2, ![64, 2]⟩
abbrev S4x8192x1 : Shape := ⟨3, ![4, 8192, 1]⟩
abbrev S4x8192 : Shape := ⟨2, ![4, 8192]⟩
abbrev S8256 : Shape := ⟨1, ![8256]⟩
abbrev S1x8256 : Shape := ⟨2, ![1, 8256]⟩
abbrev S4x8256 : Shape := ⟨2, ![4, 8256]⟩

abbrev nBuf : Space → Nat
  | .hbm => 25
  | .vmem => 9
  | .smem => 0
  | _ => 0

abbrev bufTy : (tb : Table) → Fin (tcTables nBuf tb) → BufTy
  | .hbm, ⟨0, _⟩ => ⟨S4x8192x1024, .f32⟩
  | .hbm, ⟨1, _⟩ => ⟨S64x1024, .f32⟩
  | .hbm, ⟨2, _⟩ => ⟨S1024x1, .f32⟩
  | .hbm, ⟨3, _⟩ => ⟨S1, .f32⟩
  | .hbm, ⟨4, _⟩ => ⟨S1024x1, .f32⟩
  | .hbm, ⟨5, _⟩ => ⟨S1, .f32⟩
  | .hbm, ⟨6, _⟩ => ⟨S1024x2, .f32⟩
  | .hbm, ⟨7, _⟩ => ⟨S_, .f32⟩
  | .hbm, ⟨8, _⟩ => ⟨S_, .f32⟩
  | .hbm, ⟨9, _⟩ => ⟨S1, .f32⟩
  | .hbm, ⟨10, _⟩ => ⟨S1, .f32⟩
  | .hbm, ⟨11, _⟩ => ⟨S2, .f32⟩
  | .hbm, ⟨12, _⟩ => ⟨S1x2, .f32⟩
  | .hbm, ⟨13, _⟩ => ⟨S4x8256x1024, .f32⟩
  | .hbm, ⟨14, _⟩ => ⟨S4x8192x2, .f32⟩
  | .hbm, ⟨15, _⟩ => ⟨S4x8192x1, .f32⟩
  | .hbm, ⟨16, _⟩ => ⟨S4x8192, .f32⟩
  | .hbm, ⟨17, _⟩ => ⟨S4x8192x1, .f32⟩
  | .hbm, ⟨18, _⟩ => ⟨S4x8192, .f32⟩
  | .hbm, ⟨19, _⟩ => ⟨S8256, .i32⟩
  | .hbm, ⟨20, _⟩ => ⟨S_, .i32⟩
  | .hbm, ⟨21, _⟩ => ⟨S8256, .i32⟩
  | .hbm, ⟨22, _⟩ => ⟨S8256, .i1⟩
  | .hbm, ⟨23, _⟩ => ⟨S1x8256, .i1⟩
  | .hbm, ⟨24, _⟩ => ⟨S4x8256, .i1⟩
  | .local _ .vmem, ⟨0, _⟩ => ⟨S1x64x1024, .f32⟩
  | .local _ .vmem, ⟨1, _⟩ => ⟨S1x64x1024, .f32⟩
  | .local _ .vmem, ⟨2, _⟩ => ⟨S64x1024, .f32⟩
  | .local _ .vmem, ⟨3, _⟩ => ⟨S1024x2, .f32⟩
  | .local _ .vmem, ⟨4, _⟩ => ⟨S1x2, .f32⟩
  | .local _ .vmem, ⟨5, _⟩ => ⟨S1x64x1024, .f32⟩
  | .local _ .vmem, ⟨6, _⟩ => ⟨S1x64x1024, .f32⟩
  | .local _ .vmem, ⟨7, _⟩ => ⟨S1x64x2, .f32⟩
  | .local _ .vmem, ⟨8, _⟩ => ⟨S1x64x2, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 129], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4x8192x1024 : Shape := ⟨3, ![4, 8192, 1024]⟩
abbrev S64x1024 : Shape := ⟨2, ![64, 1024]⟩
abbrev S1024x1 : Shape := ⟨2, ![1024, 1]⟩
abbrev S1 : Shape := ⟨1, ![1]⟩
abbrev S1x64x1024 : Shape := ⟨3, ![1, 64, 1024]⟩
abbrev S4x64x1024 : Shape := ⟨3, ![4, 64, 1024]⟩
abbrev S4x8256x1024 : Shape := ⟨3, ![4, 8256, 1024]⟩
abbrev S_ : Shape := ⟨0, ![]⟩
abbrev S4x64 : Shape := ⟨2, ![4, 64]⟩
abbrev S4x8192 : Shape := ⟨2, ![4, 8192]⟩
abbrev S4x8256 : Shape := ⟨2, ![4, 8256]⟩
abbrev S4x8192x1 : Shape := ⟨3, ![4, 8192, 1]⟩
abbrev S1x1x1 : Shape := ⟨3, ![1, 1, 1]⟩

abbrev nBuf : Space → Nat
  | .hbm => 32
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S64x1024, .f32⟩
  | .hbm, ⟨2, _⟩ => ⟨S1024x1, .f32⟩
  | .hbm, ⟨3, _⟩ => ⟨S1, .f32⟩
  | .hbm, ⟨4, _⟩ => ⟨S1024x1, .f32⟩
  | .hbm, ⟨5, _⟩ => ⟨S1, .f32⟩
  | .hbm, ⟨6, _⟩ => ⟨S1x64x1024, .f32⟩
  | .hbm, ⟨7, _⟩ => ⟨S4x64x1024, .f32⟩
  | .hbm, ⟨8, _⟩ => ⟨S4x8256x1024, .f32⟩
  | .hbm, ⟨9, _⟩ => ⟨S_, .i1⟩
  | .hbm, ⟨10, _⟩ => ⟨S4x64, .i1⟩
  | .hbm, ⟨11, _⟩ => ⟨S_, .i1⟩
  | .hbm, ⟨12, _⟩ => ⟨S4x8192, .i1⟩
  | .hbm, ⟨13, _⟩ => ⟨S4x8256, .i1⟩
  | .hbm, ⟨14, _⟩ => ⟨S4x8192x1, .f32⟩
  | .hbm, ⟨15, _⟩ => ⟨S1x1x1, .f32⟩
  | .hbm, ⟨16, _⟩ => ⟨S4x8192x1, .f32⟩
  | .hbm, ⟨17, _⟩ => ⟨S4x8192x1, .f32⟩
  | .hbm, ⟨18, _⟩ => ⟨S4x8192, .f32⟩
  | .hbm, ⟨19, _⟩ => ⟨S4x8192, .f32⟩
  | .hbm, ⟨20, _⟩ => ⟨S4x8192, .f32⟩
  | .hbm, ⟨21, _⟩ => ⟨S_, .f32⟩
  | .hbm, ⟨22, _⟩ => ⟨S4x8192, .f32⟩
  | .hbm, ⟨23, _⟩ => ⟨S4x8192, .f32⟩
  | .hbm, ⟨24, _⟩ => ⟨S_, .f32⟩
  | .hbm, ⟨25, _⟩ => ⟨S4x8192, .f32⟩
  | .hbm, ⟨26, _⟩ => ⟨S4x8192, .f32⟩
  | .hbm, ⟨27, _⟩ => ⟨S4x8192x1, .f32⟩
  | .hbm, ⟨28, _⟩ => ⟨S1x1x1, .f32⟩
  | .hbm, ⟨29, _⟩ => ⟨S4x8192x1, .f32⟩
  | .hbm, ⟨30, _⟩ => ⟨S4x8192x1, .f32⟩
  | .hbm, ⟨31, _⟩ => ⟨S4x8192, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Proof.RouterMath.lean ====
/- What the router computes, as two functions of arrays written at an index, over literal shapes that both programs'
   shape names unfold to: the output array (the global tokens ahead of the input's tokens, for every batch row) and the
   two scores of every token (the anchor score through the logistic function, the segment score as it is), each score alone, and the mask of the global tokens. -/
module

public import Idealize.ShloMosaic.Lib.Pointwise

@[expose] public section

set_option maxRecDepth 16384

noncomputable section

open Idealize.ShloMosaic Idealize.ShloMosaic.TcCoe Idealize.SL.Sem

namespace Cert.Router

/-- The output array: row `r` of a batch entry is global token `r` while `r < 64`, the input's row `r - 64` after. -/
def out (X : FVec Ideal ⟨3, ![4, 8192, 1024]⟩ .f32) (T : FVec Ideal ⟨2, ![64, 1024]⟩ .f32) :
    FVec Ideal ⟨3, ![4, 8256, 1024]⟩ .f32 := fun y =>
  if h : (y 1 : ℕ) < 64 then T (ix2 ⟨(y 1 : ℕ), h⟩ (y 2))
  else X (ix3 (y 0) ⟨(y 1 : ℕ) - 64, by have : (y 1 : ℕ) < 8256 := (y 1).isLt; omega⟩ (y 2))

/-- The linear score of token `s` of batch entry `i`: its row times one weight column, plus a bias. -/
def score (X : FVec Ideal ⟨3, ![4, 8192, 1024]⟩ .f32) (w : Fin 1024 → EReal) (b : EReal) (i : Fin 4) (s : Fin 8192) : EReal :=
  (∑ k : Fin 1024, (X (ix3 i s k) : EReal) * w k) + b

/-- The array of both scores over stacked weights and biases: column 0 through the logistic function, column 1 not. -/
def scores (X : FVec Ideal ⟨3, ![4, 8192, 1024]⟩ .f32) (W : FVec Ideal ⟨2, ![1024, 2]⟩ .f32)
    (B : FVec Ideal ⟨2, ![1, 2]⟩ .f32) : FVec Ideal ⟨3, ![4, 8192, 2]⟩ .f32 := fun y =>
  if (y 2 : ℕ) = 0 then Ideal.logistic (score X (fun k => W (ix2 k (y 2))) (B (ix2 0 (y 2))) (y 0) (y 1))
  else score X (fun k => W (ix2 k (y 2))) (B (ix2 0 (y 2))) (y 0) (y 1)

/-- The anchor scores: every token's linear score over the anchor weights and bias, through the logistic function. -/
def anchor (X : FVec Ideal ⟨3, ![4, 8192, 1024]⟩ .f32) (w : FVec Ideal ⟨2, ![1024, 1]⟩ .f32)
    (b : FVec Ideal ⟨1, ![1]⟩ .f32) : FVec Ideal ⟨2, ![4, 8192]⟩ .f32 := fun y =>
  Ideal.logistic (score X (fun k => w (ix2 k 0)) (b (ix1 0)) (y 0) (y 1))

/-- The segment scores: every token's linear score over the segment weights and bias. -/
def segment (X : FVec Ideal ⟨3, ![4, 8192, 1024]⟩ .f32) (w : FVec Ideal ⟨2, ![1024, 1]⟩ .f32)
    (b : FVec Ideal ⟨1, ![1]⟩ .f32) : FVec Ideal ⟨2, ![4, 8192]⟩ .f32 := fun y =>
  score X (fun k => w (ix2 k 0)) (b (ix1 0)) (y 0) (y 1)

/-- The mask of global tokens: true at the positions below 64. -/
def mask : IVec ⟨2, ![4, 8256]⟩ 1 := fun y => if (y 1 : ℕ) < 64 then 1#1 else 0#1

end Cert.Router

end
-- ==== Proof.RouterPure.lean ====
/- What one block of the kernel computes, read at an index: the bodies' stored vectors over the blocks they load. -/
module

public import proofs.«01_k».proof.Proof.RouterMath
public import proofs.«01_k».proof.Proof.Gen.KernelIdeal.Skeleton

@[expose] public section

set_option maxRecDepth 16384

noncomputable section

open Idealize.ShloMosaic Idealize.ShloMosaic.TcCoe Idealize.SL.Sem
open Cert.KernelIdeal Cert.KernelIdeal.Gen

namespace Cert.Router

/-- At the first point of a batch entry the output block is the block of global tokens. -/
theorem tokens_at (v : FVec Ideal S64x1024 .f32) (a : Fin 1) (r : Fin 64) (l : Fin 1024) :
    k0_pay1 (F := Ideal) v (ix3 a r l : S1x64x1024.Idx) = v (ix2 r l) := by
  pointwise [k0_pay1]

/-- At every later point the output block is the input's block. -/
theorem copy_at (v : FVec Ideal S1x64x1024 .f32) (a : Fin 1) (r : Fin 64) (l : Fin 1024) :
    k0_pay3 (F := Ideal) v (ix3 a r l : S1x64x1024.Idx) = v (ix3 0 r l) := by
  pointwise [k0_pay3, k0_pay2]
  rw [Subsingleton.elim a 0]

/-- The score block: row `r`, column `l` is the block's row `r` times the weights' column `l` plus the bias, and column 0
    goes through the logistic function. -/
theorem score_at (v : FVec Ideal S1x64x1024 .f32) (w : FVec Ideal S1024x2 .f32) (b : FVec Ideal S1x2 .f32)
    (a : Fin 1) (r : Fin 64) (l : Fin 2) :
    k0_pay4 (F := Ideal) v w b (ix3 a r l : S1x64x2.Idx)
      = if (l : ℕ) = 0 then Ideal.logistic ((∑ k : Fin 1024, (v (ix3 0 r k) : EReal) * w (ix2 k l)) + b (ix2 0 l))
        else (∑ k : Fin 1024, (v (ix3 0 r k) : EReal) * w (ix2 k l)) + b (ix2 0 l) := by
  pointwise [k0_pay4, k0_pay2]
  fin_vals l with hl
  · rw [if_pos hl, hl]; rfl
  · rw [if_neg (by omega), hl]; rfl

/-- The score block over blocks that are parts of arrays: its row `r` is the scores of the token whose row it loads. -/
theorem score_block (v : FVec Ideal S1x64x1024 .f32) (w : FVec Ideal S1024x2 .f32) (b : FVec Ideal S1x2 .f32)
    (X : FVec Ideal S4x8192x1024 .f32) (W : FVec Ideal S1024x2 .f32) (B : FVec Ideal S1x2 .f32)
    (a : Fin 1) (r : Fin 64) (l : Fin 2) (i : Fin 4) (s : Fin 8192)
    (hv : ∀ k : Fin 1024, v (ix3 0 r k) = X (ix3 i s k)) (hw : ∀ k : Fin 1024, w (ix2 k l) = W (ix2 k l))
    (hb : b (ix2 0 l) = B (ix2 0 l)) :
    k0_pay4 (F := Ideal) v w b (ix3 a r l : S1x64x2.Idx) = scores X W B (ix3 i s l) := by
  rw [score_at, hb, Finset.sum_congr rfl fun k _ => by rw [hv k, hw k]]
  rfl

end Cert.Router

end
-- ==== Proof.RouterArrays.lean ====
/- What the two arrays of the pipelined region hold once every block is written back: the output array and the array of
   scores, as the functions of RouterMath over what the region finds in its operands. -/
module

public import proofs.«01_k».proof.Proof.RouterPure
public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.KernelIdeal Cert.KernelIdeal.Gen

namespace Cert.Router

variable (m : (ℓ : Loc nD τ sig) → Buf (Elt Ideal) ℓ)

/-- The block every window is at, at each grid point. -/
theorem blocks : ∀ t : Fin cfg0.N,
    win0_0.index t = ![t.val / 129, t.val % 129 - 1, 0] ∧ win0_1.index t = ![0, 0] ∧ win0_2.index t = ![0, 0]
      ∧ win0_3.index t = ![0, 0] ∧ win0_4.index t = ![t.val / 129, t.val % 129, 0]
      ∧ win0_5.index t = ![t.val / 129, t.val % 129 - 1, 0] :=
  (by decide +kernel : ∀ t : Fin grid0.N, _)

/-- The block of global tokens is the whole operand. -/
theorem tokens_blk (c : Dev nD) (t : Fin cfg0.N) (r : Fin 64) (l : Fin 1024) :
    iblk m c 1 t (ix2 r l : S64x1024.Idx) = V m c main_arg1 (ix2 r l) := by
  blk_ext [iblk, blocks t]

/-- The block of stacked weights is the whole operand. -/
theorem weights_blk (c : Dev nD) (t : Fin cfg0.N) (k : Fin 1024) (l : Fin 2) :
    iblk m c 2 t (ix2 k l : S1024x2.Idx) = V m c main_v0 (ix2 k l) := by
  blk_ext [iblk, blocks t]

/-- The block of stacked biases is the whole operand. -/
theorem biases_blk (c : Dev nD) (t : Fin cfg0.N) (k : Fin 1) (l : Fin 2) :
    iblk m c 3 t (ix2 k l : S1x2.Idx) = V m c main_v6 (ix2 k l) := by
  blk_ext [iblk, blocks t]

/-- The batch entry a grid point works on. -/
def entry (t : Fin cfg0.N) : Fin 4 := ⟨t.val / 129, by have : t.val < 516 := lt_of_lt_of_eq t.isLt N_0; omega⟩

/-- Row `r` of the input block a later point copies, in the input array. -/
def row (t : Fin cfg0.N) (r : Fin 64) : Fin 8192 :=
  ⟨64 * (t.val % 129 - 1) + r.val, by have := Nat.mod_lt t.val (show 129 > 0 by omega); omega⟩

/-- Row `r` of the output block of a point, in the output array. -/
def outRow (t : Fin cfg0.N) (r : Fin 64) : Fin 8256 :=
  ⟨64 * (t.val % 129) + r.val, by have := Nat.mod_lt t.val (show 129 > 0 by omega); omega⟩

/-- The input block of a point, in the input array. -/
theorem input_blk (c : Dev nD) (t : Fin cfg0.N) (a : Fin 1) (r : Fin 64) (l : Fin 1024) :
    iblk m c 0 t (ix3 a r l : S1x64x1024.Idx) = V m c main_arg0 (ix3 (entry t) (row t r) l) := by
  blk_ext [iblk, blocks t, entry, row]

/-- Where the output block of a point lies in the output array. -/
theorem out_place (t : Fin cfg0.N) (a : Fin 1) (r : Fin 64) (l : Fin 1024) :
    ((View.whole main_v7_0).slice (win0_4.rect t)).emb (ix3 a r l : S1x64x1024.Idx)
      = (ix3 (entry t) (outRow t r) l : S4x8256x1024.Idx) := by
  blk_ext [blocks t, entry, outRow]

/-- Where the score block of a point lies in the array of scores. -/
theorem scores_place (t : Fin cfg0.N) (a : Fin 1) (r : Fin 64) (l : Fin 2) :
    ((View.whole main_v7_1).slice (win0_5.rect t)).emb (ix3 a r l : S1x64x2.Idx)
      = (ix3 (entry t) (row t r) l : S4x8192x2.Idx) := by
  blk_ext [blocks t, entry, row]

/-- The output array's rows at a batch entry's first point are the global tokens. -/
theorem out_first (X : FVec Ideal S4x8192x1024 .f32) (T : FVec Ideal S64x1024 .f32) (t : Fin cfg0.N)
    (h : t.val % 129 = 0) (r : Fin 64) (l : Fin 1024) :
    out X T (ix3 (entry t) (outRow t r) l) = T (ix2 r l) := by
  have e : ((ix3 (entry t) (outRow t r) l : S4x8256x1024.Idx) 1 : ℕ) = r.val := by
    show 64 * (t.val % 129) + r.val = r.val
    omega
  unfold out
  rw [dif_pos (by rw [e]; exact r.isLt)]
  exact congrArg T ((ix2_inj ..).2 ⟨Fin.ext e, rfl⟩)

/-- The output array's rows at a later point are the input's rows of that point. -/
theorem out_later (X : FVec Ideal S4x8192x1024 .f32) (T : FVec Ideal S64x1024 .f32) (t : Fin cfg0.N)
    (h : ¬ t.val % 129 = 0) (r : Fin 64) (l : Fin 1024) :
    out X T (ix3 (entry t) (outRow t r) l) = X (ix3 (entry t) (row t r) l) := by
  have e : ((ix3 (entry t) (outRow t r) l : S4x8256x1024.Idx) 1 : ℕ) = 64 * (t.val % 129) + r.val := rfl
  unfold out
  rw [dif_neg (by rw [e]; omega)]
  exact congrArg X ((ix3_inj ..).2 ⟨rfl, Fin.ext (by show 64 * (t.val % 129) + r.val - 64 = 64 * (t.val % 129 - 1) + r.val; omega), rfl⟩)

/-- The output array, once every block is written. -/
theorem final_out (c : Dev nD) : (dats m 0 c).arrAt 4 (cfgs 0).N
    = out (V m c main_arg0) (V m c main_arg1) := by
  refine (dats m 0 c).arrAt_eq_of_covers 4 _ (by decide +kernel) fun t hf y => ?_
  obtain ⟨a, r, l, rfl⟩ : ∃ (a : Fin 1) (r : Fin 64) (l : Fin 1024), y = (ix3 a r l : S1x64x1024.Idx) :=
    ⟨y 0, y 1, y 2, eq_ix3 (y : S1x64x1024.Idx)⟩
  blk_simp
  rw [after0_4]
  by_cases h0 : t.val % 129 = 0
  · rw [outsAt0_A m c t h0 (by omega)]
    frame_out
    refine (tokens_at _ a r l).trans ((tokens_blk m c t r l).trans ?_)
    exact ((congrArg (out _ _) (out_place t a r l)).trans (out_first _ _ t h0 r l)).symm
  · rw [outsAt0_B m c t h0 (by omega)]
    frame_out
    refine (copy_at _ a r l).trans ((input_blk m c t 0 r l).trans ?_)
    exact ((congrArg (out _ _) (out_place t a r l)).trans (out_later _ _ t h0 r l)).symm

/-- The array of scores, once every block is written. -/
theorem final_scores (c : Dev nD) : (dats m 0 c).arrAt 5 (cfgs 0).N
    = scores (V m c main_arg0) (V m c main_v0) (V m c main_v6) := by
  refine (dats m 0 c).arrAt_eq_of_covers 5 _ (by decide +kernel) fun t hf y => ?_
  have h0 : ¬ t.val % 129 = 0 := fun h => by
    have := noFlush0_5_A t ((hcond0_0 t).mpr h) (fun h' => by have := (hcond0_1 t).mp h'; omega)
    rw [this] at hf
    exact absurd hf (by decide)
  obtain ⟨a, r, l, rfl⟩ : ∃ (a : Fin 1) (r : Fin 64) (l : Fin 2), y = (ix3 a r l : S1x64x2.Idx) :=
    ⟨y 0, y 1, y 2, eq_ix3 (y : S1x64x2.Idx)⟩
  blk_simp
  rw [after0_5, outsAt0_B m c t h0 (by omega)]
  frame_out
  exact (score_block _ _ _ _ _ _ a r l (entry t) (row t r) (input_blk m c t 0 r) (fun k => weights_blk m c t k l)
    (biases_blk m c t 0 l)).trans (congrArg (scores _ _ _) (scores_place t a r l)).symm

end Cert.Router

end
-- ==== Proof.RouterTail.lean ====
/- What the host lines around the region compute: the stacked weights and biases before it, the two score columns and
   the mask after it. -/
module

public import proofs.«01_k».proof.Proof.RouterArrays

@[expose] public section

set_option maxRecDepth 16384

noncomputable section

open Idealize.ShloMosaic Idealize.ShloMosaic.TcCoe Idealize.SL.Sem Idealize.ShloMosaic.StableHlo
open Idealize.ShloMosaic.Pipeline (Dat)
open Cert.KernelIdeal Cert.KernelIdeal.Gen

namespace Cert.Router

/-! ## The lines after the region, from any contents -/

/-- The first score column, as a matrix of tokens. -/
theorem after_anchor (W : Valuation τ sig (Elt Ideal)) :
    StableHlo.after hostOps1 W (Proc.devRef .tc main_v9)
      = shapeCast S4x8192 (extractStridedSlice S4x8192x1 ![0, 0, 0]
          (W (Proc.devRef .tc main_v7_1)) slices_S4x8192x2_S4x8192x1_0_0_0) shapeCasts_S4x8192x1_S4x8192 := by
  after_results
  rfl

/-- The second score column, as a matrix of tokens. -/
theorem after_segment (W : Valuation τ sig (Elt Ideal)) :
    StableHlo.after hostOps1 W (Proc.devRef .tc main_v11)
      = shapeCast S4x8192 (extractStridedSlice S4x8192x1 ![0, 0, 1]
          (W (Proc.devRef .tc main_v7_1)) slices_S4x8192x2_S4x8192x1_0_0_1) shapeCasts_S4x8192x1_S4x8192 := by
  after_results
  rfl

/-- The mask: position below 64, the same for every batch entry. -/
theorem after_mask (W : Valuation τ sig (Elt Ideal)) :
    StableHlo.after hostOps1 W (Proc.devRef .tc main_v16)
      = broadcastInDim S4x8256 ![0, 1] bcast_S1x8256_S4x8256_0_1 (broadcastInDim S1x8256 ![1] bcast_S8256_S1x8256_1
          (cmpi .slt (iotaInDim S8256 32 0) (broadcastInDim S8256 ![] bcast_S_S8256 (constantI S_ 32 64#32)))) := by
  after_results

/-! ## The lines before the region, from any contents -/

/-- The stacked weights: column 0 the anchor weights, column 1 the segment weights. -/
theorem before_weights (W : Valuation τ sig (Elt Ideal)) :
    StableHlo.after hostOps0 W (Proc.devRef .tc main_v0)
      = concatenate S1024x2 1 [⟨S1024x1, W (Proc.devRef .tc main_arg2)⟩, ⟨S1024x1, W (Proc.devRef .tc main_arg4)⟩]
          concatenates_S1024x1_S1024x1_S1024x2_d1 := by
  after_results

/-- The stacked biases: column 0 the anchor bias, column 1 the segment bias. -/
theorem before_biases (W : Valuation τ sig (Elt Ideal)) :
    StableHlo.after hostOps0 W (Proc.devRef .tc main_v6)
      = shapeCast S1x2 (concatenate S2 0
          [⟨S1, broadcastInDim S1 ![] bcast_S_S1 (shapeCast S_ (W (Proc.devRef .tc main_arg3)) shapeCasts_S1_S_)⟩,
           ⟨S1, broadcastInDim S1 ![] bcast_S_S1 (shapeCast S_ (W (Proc.devRef .tc main_arg5)) shapeCasts_S1_S_)⟩]
          concatenates_S1_S1_S2_d0) shapeCasts_S2_S1x2 := by
  after_results
  rfl

/-! ## At an index -/

/-- Two columns stacked, at an index. -/
theorem stack_at (u v : FVec Ideal S1024x1 .f32) (k : Fin 1024) (l : Fin 2) :
    concatenate S1024x2 1 [⟨S1024x1, u⟩, ⟨S1024x1, v⟩] concatenates_S1024x1_S1024x1_S1024x2_d1 (ix2 k l : S1024x2.Idx)
      = if (l : ℕ) = 0 then u (ix2 k 0) else v (ix2 k 0) := by
  pointwise
  by_cases h : (l : ℕ) < 1
  · have hl : (l : ℕ) = 0 := by omega
    refine (dif_pos h).trans (Eq.trans ?_ (if_pos hl).symm)
    exact congrArg u ((ix2_inj ..).2 ⟨rfl, Subsingleton.elim _ _⟩)
  · have hl : ¬ (l : ℕ) = 0 := by omega
    refine (dif_neg h).trans (Eq.trans ?_ (if_neg hl).symm)
    exact congrArg v ((ix2_inj ..).2 ⟨rfl, Subsingleton.elim _ _⟩)

/-- Two scalars stacked in a row, at an index. -/
theorem stack_bias_at (u v : FVec Ideal S1 .f32) (l : Fin 2) :
    shapeCast S1x2 (concatenate S2 0
          [⟨S1, broadcastInDim S1 ![] bcast_S_S1 (shapeCast S_ u shapeCasts_S1_S_)⟩,
           ⟨S1, broadcastInDim S1 ![] bcast_S_S1 (shapeCast S_ v shapeCasts_S1_S_)⟩]
          concatenates_S1_S1_S2_d0) shapeCasts_S2_S1x2 (ix2 0 l : S1x2.Idx)
      = if (l : ℕ) = 0 then u (ix1 0) else v (ix1 0) := by
  pointwise
  by_cases h : (l : ℕ) < 1
  · rw [dif_pos h, if_pos (by omega)]
  · rw [dif_neg h, if_neg (by omega)]

/-- Column 0 of the array of scores, over weights and biases whose column 0 is `w` and `b`: the anchor scores. -/
theorem column_anchor (X : FVec Ideal S4x8192x1024 .f32) (W : FVec Ideal S1024x2 .f32) (B : FVec Ideal S1x2 .f32)
    (w : FVec Ideal S1024x1 .f32) (b : FVec Ideal S1 .f32) (hW : ∀ k : Fin 1024, W (ix2 k 0) = w (ix2 k 0))
    (hB : B (ix2 0 0) = b (ix1 0)) :
    shapeCast S4x8192 (extractStridedSlice S4x8192x1 ![0, 0, 0] (scores X W B) slices_S4x8192x2_S4x8192x1_0_0_0)
        shapeCasts_S4x8192x1_S4x8192 = anchor X w b := by
  funext y
  idx_vars y
  pointwise [anchor]
  show Ideal.logistic (score X (fun k => W (ix2 k 0)) (B (ix2 0 0)) _ _) = _
  rw [funext hW, hB]
  rfl

/-- Column 1 of the array of scores, over weights and biases whose column 1 is `w` and `b`: the segment scores. -/
theorem column_segment (X : FVec Ideal S4x8192x1024 .f32) (W : FVec Ideal S1024x2 .f32) (B : FVec Ideal S1x2 .f32)
    (w : FVec Ideal S1024x1 .f32) (b : FVec Ideal S1 .f32) (hW : ∀ k : Fin 1024, W (ix2 k 1) = w (ix2 k 0))
    (hB : B (ix2 0 1) = b (ix1 0)) :
    shapeCast S4x8192 (extractStridedSlice S4x8192x1 ![0, 0, 1] (scores X W B) slices_S4x8192x2_S4x8192x1_0_0_1)
        shapeCasts_S4x8192x1_S4x8192 = segment X w b := by
  funext y
  idx_vars y
  pointwise [segment]
  show score X (fun k => W (ix2 k 1)) (B (ix2 0 1)) _ _ = _
  rw [funext hW, hB]
  rfl

/-- Comparing a position with 64 as 32-bit words is comparing the numbers. -/
theorem below_64 (n : ℕ) (h : n < 8256) :
    IntOp.cmpi CmpIPredicate.slt (BitVec.ofNat 32 n) 64#32 = if n < 64 then 1#1 else 0#1 := by
  word_cmp
  by_cases h' : n < 64 <;> simp [h']

/-- The mask the host lines compute is true at the positions below 64. -/
theorem mask_eq :
    broadcastInDim S4x8256 ![0, 1] bcast_S1x8256_S4x8256_0_1 (broadcastInDim S1x8256 ![1] bcast_S8256_S1x8256_1
          (cmpi .slt (iotaInDim S8256 32 0) (broadcastInDim S8256 ![] bcast_S_S8256 (constantI S_ 32 64#32)))) = mask := by
  funext y
  idx_vars y
  pointwise [mask]
  exact below_64 _ (Fin.isLt _)

variable (m : (ℓ : Loc nD τ sig) → Buf (Elt Ideal) ℓ)

/-- The contents every buffer has when the region ends. -/
def atExit (c : Dev nD) : Valuation τ sig (Elt Ideal) :=
  Pipeline.withArrays (cfgs 0).spec c (V0 m c) fun w => (dats m 0 c).arrAt w (cfgs 0).N

/-- The array of scores is what the region left. -/
theorem atExit_scores (c : Dev nD) :
    atExit m c (Proc.devRef .tc main_v7_1) = scores (V m c main_arg0) (V m c main_v0) (V m c main_v6) :=
  (Pipeline.withArrays_arr (cfgs 0).spec (by decide) c (V0 m c) (fun w => (dats m 0 c).arrAt w (cfgs 0).N) 5).trans
    (final_scores m c)

/-- The stacked weights the region finds, at an index. -/
theorem weights_in (c : Dev nD) (k : Fin 1024) (l : Fin 2) :
    V m c main_v0 (ix2 k l : S1024x2.Idx)
      = if (l : ℕ) = 0 then m ((c.tc : Thread nD τ).loc main_arg2) (ix2 k 0 : S1024x1.Idx)
        else m ((c.tc : Thread nD τ).loc main_arg4) (ix2 k 0 : S1024x1.Idx) :=
  (congrFun (before_weights fun b => m (c, b)) (ix2 k l : S1024x2.Idx)).trans (stack_at _ _ k l)

/-- The stacked biases the region finds, at an index. -/
theorem biases_in (c : Dev nD) (l : Fin 2) :
    V m c main_v6 (ix2 0 l : S1x2.Idx)
      = if (l : ℕ) = 0 then m ((c.tc : Thread nD τ).loc main_arg3) (ix1 0 : S1.Idx)
        else m ((c.tc : Thread nD τ).loc main_arg5) (ix1 0 : S1.Idx) :=
  (congrFun (before_biases fun b => m (c, b)) (ix2 0 l : S1x2.Idx)).trans (stack_bias_at _ _ l)

/-! ## The results, over the arguments -/

/-- The first result: the output array over the input and the global tokens. -/
theorem result_out (c : Dev nD) : (dats m 0 c).arrAt 4 (cfgs 0).N
    = out (m ((c.tc : Thread nD τ).loc main_arg0)) (m ((c.tc : Thread nD τ).loc main_arg1)) := by
  rw [final_out, V_main_arg0, V_main_arg1]

/-- The second result: the mask. -/
theorem result_mask (c : Dev nD) :
    Pipeline.afterTail₀ cfgs (dats m) 0 (V0 m) [hostOps1] c main_v16 = mask :=
  (after_mask (atExit m c)).trans mask_eq

/-- The third result: the anchor scores. -/
theorem result_anchor (c : Dev nD) :
    Pipeline.afterTail₀ cfgs (dats m) 0 (V0 m) [hostOps1] c main_v9
      = anchor (m ((c.tc : Thread nD τ).loc main_arg0)) (m ((c.tc : Thread nD τ).loc main_arg2))
          (m ((c.tc : Thread nD τ).loc main_arg3)) := by
  refine (after_anchor (atExit m c)).trans ?_
  rw [atExit_scores, V_main_arg0]
  exact column_anchor _ _ _ _ _ (fun k => weights_in m c k 0) (biases_in m c 0)

/-- The fourth result: the segment scores. -/
theorem result_segment (c : Dev nD) :
    Pipeline.afterTail₀ cfgs (dats m) 0 (V0 m) [hostOps1] c main_v11
      = segment (m ((c.tc : Thread nD τ).loc main_arg0)) (m ((c.tc : Thread nD τ).loc main_arg4))
          (m ((c.tc : Thread nD τ).loc main_arg5)) := by
  refine (after_segment (atExit m c)).trans ?_
  rw [atExit_scores, V_main_arg0]
  exact column_segment _ _ _ _ _ (fun k => weights_in m c k 1) (biases_in m c 1)

end Cert.Router

end
-- ==== Proof.RouterRef.lean ====
/- What the reference computes: each of its four results, as the functions of RouterMath over the arguments. -/
module

public import proofs.«01_k».proof.Proof.RouterMath
public import proofs.«01_k».proof.Proof.Gen.ReferenceIdeal

@[expose] public section

set_option maxRecDepth 16384

noncomputable section

open Idealize.ShloMosaic Idealize.ShloMosaic.TcCoe Idealize.SL.Sem
open Cert.ReferenceIdeal Cert.ReferenceIdeal.Gen

namespace Cert.Router

/-- The reference's first result is the output array. -/
theorem ref_out (X : FVec Ideal S4x8192x1024 .f32) (T : FVec Ideal S64x1024 .f32) :
    concatenate S4x8256x1024 1 [⟨S4x64x1024, broadcastInDim S4x64x1024 ![0, 1, 2] bcast_S1x64x1024_S4x64x1024_0_1_2
        (broadcastInDim S1x64x1024 ![1, 2] bcast_S64x1024_S1x64x1024_1_2 T)⟩, ⟨S4x8192x1024, X⟩]
        concatenates_S4x64x1024_S4x8192x1024_S4x8256x1024_d1 = out X T := by
  funext y
  idx_vars y
  pointwise [out]

/-- The reference's second result is the mask. -/
theorem ref_mask :
    concatenate S4x8256 1 [⟨S4x64, broadcastInDim S4x64 ![] bcast_S_S4x64 (constantI S_ 1 1#1)⟩,
        ⟨S4x8192, broadcastInDim S4x8192 ![] bcast_S_S4x8192 (constantI S_ 1 0#1)⟩]
        concatenates_S4x64_S4x8192_S4x8256_d1 = mask := by
  funext y
  idx_vars y
  pointwise [mask]
  by_cases h : (y1 : ℕ) < 64
  · exact (dif_pos h).trans (if_pos h).symm
  · exact (dif_neg h).trans (if_neg h).symm

/-- The reference's linear scores, at an index. -/
theorem ref_score (X : FVec Ideal S4x8192x1024 .f32) (w : FVec Ideal S1024x1 .f32) (b : FVec Ideal S1 .f32)
    (i : Fin 4) (s : Fin 8192) :
    shapeCast S4x8192 (addf (Host.dotGeneral dot_S4x8192x1024_S1024x1_S4x8192x1_2_0_01_1_n_n none X w)
        (broadcastInDim S4x8192x1 ![0, 1, 2] bcast_S1x1x1_S4x8192x1_0_1_2 (broadcastInDim S1x1x1 ![2] bcast_S1_S1x1x1_2 b)))
        shapeCasts_S4x8192x1_S4x8192 (ix2 i s : S4x8192.Idx)
      = score X (fun k => w (ix2 k 0)) (b (ix1 0)) i s := by
  pointwise [score]

/-- The reference's fourth result is the segment scores. -/
theorem ref_segment (X : FVec Ideal S4x8192x1024 .f32) (w : FVec Ideal S1024x1 .f32) (b : FVec Ideal S1 .f32) :
    shapeCast S4x8192 (addf (Host.dotGeneral dot_S4x8192x1024_S1024x1_S4x8192x1_2_0_01_1_n_n none X w)
        (broadcastInDim S4x8192x1 ![0, 1, 2] bcast_S1x1x1_S4x8192x1_0_1_2 (broadcastInDim S1x1x1 ![2] bcast_S1_S1x1x1_2 b)))
        shapeCasts_S4x8192x1_S4x8192 = segment X w b := by
  funext y
  idx_vars y
  exact ref_score X w b _ _

/-- One over one plus the exponential of the negation is the logistic function, at an index. -/
theorem expanded_logistic (z : FVec Ideal S4x8192 .f32) (y : S4x8192.Idx) :
    Host.divf (broadcastInDim S4x8192 ![] bcast_S_S4x8192 (constant S_ .f32 0x3F800000#32))
        (addf (broadcastInDim S4x8192 ![] bcast_S_S4x8192 (constant S_ .f32 0x3F800000#32)) (Host.exp (Host.negf z))) y
      = Ideal.logistic (z y) := by
  pointwise [Ideal.logistic]

/-- The reference's third result is the anchor scores. -/
theorem ref_anchor (X : FVec Ideal S4x8192x1024 .f32) (w : FVec Ideal S1024x1 .f32) (b : FVec Ideal S1 .f32) :
    Host.divf (broadcastInDim S4x8192 ![] bcast_S_S4x8192 (constant S_ .f32 0x3F800000#32))
        (addf (broadcastInDim S4x8192 ![] bcast_S_S4x8192 (constant S_ .f32 0x3F800000#32)) (Host.exp (Host.negf
          (shapeCast S4x8192 (addf (Host.dotGeneral dot_S4x8192x1024_S1024x1_S4x8192x1_2_0_01_1_n_n none X w)
            (broadcastInDim S4x8192x1 ![0, 1, 2] bcast_S1x1x1_S4x8192x1_0_1_2 (broadcastInDim S1x1x1 ![2] bcast_S1_S1x1x1_2 b)))
            shapeCasts_S4x8192x1_S4x8192)))) = anchor X w b := by
  funext y
  rw [expanded_logistic]
  exact congrArg Ideal.logistic (congrFun (ref_segment X w b) y)

end Cert.Router

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RouterTail
public import proofs.«01_k».proof.Proof.RouterRef
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Proof

open Idealize.ShloMosaic Idealize.SL.Sem

/-- The idealized reference ends with its arguments unchanged and every semaphore counter at zero. -/
theorem reference_frame : Cert.quiescent_ReferenceIdeal := fun m ρ _ =>
  (θ_run Cert.ReferenceIdeal.defs _ _).mono
    (fun r h => ⟨fun c => (h c).2.2.2.2, sem_eq_zero_of_no_sems (by decide) r.2⟩)
    (Cert.ReferenceIdeal.Value.run (F := Ideal) m ρ)

/-- The idealized kernel's run: each result at its function of the arguments. -/
theorem kernel_run (m : (ℓ : Loc Cert.KernelIdeal.nD Cert.KernelIdeal.τ Cert.KernelIdeal.sig) → Buf (Elt Ideal) ℓ)
    (g : Dev Cert.KernelIdeal.nD → PrngReg) :
    θ_run Cert.KernelIdeal.defs (onTc (τ := Cert.KernelIdeal.τ) (Cert.KernelIdeal.main (F := Ideal))) ⟨m, fun _ => 0, g⟩
      fun r => ∀ c : Dev Cert.KernelIdeal.nD,
        r.2.mem ((c.tc : Thread Cert.KernelIdeal.nD Cert.KernelIdeal.τ).loc Cert.KernelIdeal.main_v7_0)
            = Cert.Router.out (m (c.tc.loc Cert.KernelIdeal.main_arg0)) (m (c.tc.loc Cert.KernelIdeal.main_arg1))
        ∧ r.2.mem ((c.tc : Thread Cert.KernelIdeal.nD Cert.KernelIdeal.τ).loc Cert.KernelIdeal.main_v16) = Cert.Router.mask
        ∧ r.2.mem ((c.tc : Thread Cert.KernelIdeal.nD Cert.KernelIdeal.τ).loc Cert.KernelIdeal.main_v9)
            = Cert.Router.anchor (m (c.tc.loc Cert.KernelIdeal.main_arg0)) (m (c.tc.loc Cert.KernelIdeal.main_arg2))
                (m (c.tc.loc Cert.KernelIdeal.main_arg3))
        ∧ r.2.mem ((c.tc : Thread Cert.KernelIdeal.nD Cert.KernelIdeal.τ).loc Cert.KernelIdeal.main_v11)
            = Cert.Router.segment (m (c.tc.loc Cert.KernelIdeal.main_arg0)) (m (c.tc.loc Cert.KernelIdeal.main_arg4))
                (m (c.tc.loc Cert.KernelIdeal.main_arg5)) :=
  (θ_run Cert.KernelIdeal.defs _ _).mono (fun r h c =>
    ⟨((h c).1 4).trans (Cert.Router.result_out m c),
     ((h c).2 Cert.KernelIdeal.main_v16 (Pipeline.mem_restRefs_of _ (by decide) (by decide))).trans (Cert.Router.result_mask m c),
     ((h c).2 Cert.KernelIdeal.main_v9 (Pipeline.mem_restRefs_of _ (by decide) (by decide))).trans (Cert.Router.result_anchor m c),
     ((h c).2 Cert.KernelIdeal.main_v11 (Pipeline.mem_restRefs_of _ (by decide) (by decide))).trans (Cert.Router.result_segment m c)⟩)
    (Cert.KernelIdeal.Gen.run_main m g)

/-- From arguments that agree, the idealized kernel and the idealized reference end with equal results. -/
theorem algebraic : Cert.algebraic_KernelIdeal_ReferenceIdeal := by
  intro m g m' g' hpre hagree
  refine ⟨fun c => Cert.Router.out (m (c.tc.loc Cert.KernelIdeal.main_arg0)) (m (c.tc.loc Cert.KernelIdeal.main_arg1)),
    fun _ => Cert.Router.mask,
    fun c => Cert.Router.anchor (m (c.tc.loc Cert.KernelIdeal.main_arg0)) (m (c.tc.loc Cert.KernelIdeal.main_arg2))
      (m (c.tc.loc Cert.KernelIdeal.main_arg3)),
    fun c => Cert.Router.segment (m (c.tc.loc Cert.KernelIdeal.main_arg0)) (m (c.tc.loc Cert.KernelIdeal.main_arg4))
      (m (c.tc.loc Cert.KernelIdeal.main_arg5)), ?_, ?_⟩
  · exact (θ_run Cert.KernelIdeal.defs _ _).mono (fun r h c =>
      ⟨(h.1 c).1, (h.1 c).2.1, (h.1 c).2.2.1, (h.1 c).2.2.2, h.2 c⟩)
      (θ_run_and (kernel_run m g) (Cert.KernelIdeal.Gen.unchanged m g))
  · refine (θ_run Cert.ReferenceIdeal.defs _ _).mono (fun r h c => ?_) (Cert.ReferenceIdeal.Value.run (F := Ideal) m' g')
    obtain ⟨h0, h1, h2, h3, hargs⟩ := h c
    obtain ⟨a0, a1, a2, a3, a4, a5⟩ := hagree c
    refine ⟨?_, h1.trans Cert.Router.ref_mask, ?_, ?_, hargs⟩
    · exact h0.trans ((Cert.Router.ref_out _ _).trans (congrArg₂ Cert.Router.out a0 a1))
    · refine h2.trans ((Cert.Router.ref_anchor _ _ _).trans ?_)
      rw [a0, a2, a3]
    · refine h3.trans ((Cert.Router.ref_segment _ _ _).trans ?_)
      rw [a0, a4, a5]

/-- The certificate: every claim stated of the kernel and its reference. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, trivial, algebraic⟩

end Cert.Proof

end
